-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "neg_log2e" .bf16 0xBFB9#16 ((-((Real.log 2)⁻¹) : ℝ) : EReal)

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S8x8192x1024 : Shape := ⟨3, ![8, 8192, 1024]⟩
abbrev S8x1024 : Shape := ⟨2, ![8, 1024]⟩
abbrev S1024x2048 : Shape := ⟨2, ![1024, 2048]⟩
abbrev S2048 : Shape := ⟨1, ![2048]⟩
abbrev S1024x3 : Shape := ⟨2, ![1024, 3]⟩
abbrev S3 : Shape := ⟨1, ![3]⟩
abbrev S_ : Shape := ⟨0, ![]⟩

class Facts : Prop where
  bcast_S_S8x8192x1024 : S_.BroadcastsInDim S8x8192x1024 (![] : Fin 0 → Fin S8x8192x1024.rank)

variable [Facts]

def fn {F : FTy → Type} [FloatOps F] (main_arg0 : FVec F S8x8192x1024 .f32) (main_arg1 : FVec F S8x1024 .f32) (main_arg2 : FVec F S1024x2048 .f32) (main_arg3 : FVec F S2048 .f32) (main_arg4 : FVec F S1024x3 .f32) (main_arg5 : FVec F S3 .f32) : IVec S8x8192x1024 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  main_v2
-- ==== Kernel.lean ====
abbrev S8x8192x1024 : Shape := ⟨3, ![8, 8192, 1024]⟩
abbrev S8x1024 : Shape := ⟨2, ![8, 1024]⟩
abbrev S1024x2048 : Shape := ⟨2, ![1024, 2048]⟩
abbrev S2048 : Shape := ⟨1, ![2048]⟩
abbrev S1024x3 : Shape := ⟨2, ![1024, 3]⟩
abbrev S3 : Shape := ⟨1, ![3]⟩
abbrev S8x1x1024 : Shape := ⟨3, ![8, 1, 1024]⟩
abbrev S1x2048 : Shape := ⟨2, ![1, 2048]⟩
abbrev S1x3 : Shape := ⟨2, ![1, 3]⟩
abbrev S8x8192x3 : Shape := ⟨3, ![8, 8192, 3]⟩
abbrev S1x4096x1024 : Shape := ⟨3, ![1, 4096, 1024]⟩
abbrev S1x1x1024 : Shape := ⟨3, ![1, 1, 1024]⟩
abbrev S1x4096x3 : Shape := ⟨3, ![1, 4096, 3]⟩
abbrev S1x1024 : Shape := ⟨2, ![1, 1024]⟩
abbrev S4096x1024 : Shape := ⟨2, ![4096, 1024]⟩
abbrev S4096 : Shape := ⟨1, ![4096]⟩
abbrev S4096x1 : Shape := ⟨2, ![4096, 1]⟩
abbrev S4096x3 : Shape := ⟨2, ![4096, 3]⟩

abbrev nBuf : Space → Nat
  | .hbm => 11
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S8x1024, .f32⟩
  | .hbm, ⟨2, _⟩ => ⟨S1024x2048, .f32⟩
  | .hbm, ⟨3, _⟩ => ⟨S2048, .f32⟩
  | .hbm, ⟨4, _⟩ => ⟨S1024x3, .f32⟩
  | .hbm, ⟨5, _⟩ => ⟨S3, .f32⟩
  | .hbm, ⟨6, _⟩ => ⟨S8x1x1024, .f32⟩
  | .hbm, ⟨7, _⟩ => ⟨S1x2048, .f32⟩
  | .hbm, ⟨8, _⟩ => ⟨S1024x3, .bf16⟩
  | .hbm, ⟨9, _⟩ => ⟨S1x3, .f32⟩
  | .hbm, ⟨10, _⟩ => ⟨S8x8192x3, .f32⟩
  | .local _ .vmem, ⟨0, _⟩ => ⟨S1x4096x1024, .f32⟩
  | .local _ .vmem, ⟨1, _⟩ => ⟨S1x4096x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x2048, .f32⟩
  | .local _ .vmem, ⟨5, _⟩ => ⟨S1x2048, .f32⟩
  | .local _ .vmem, ⟨6, _⟩ => ⟨S1024x3, .bf16⟩
  | .local _ .vmem, ⟨7, _⟩ => ⟨S1x3, .f32⟩
  | .local _ .vmem, ⟨8, _⟩ => ⟨S1x4096x3, .f32⟩
  | .local _ .vmem, ⟨9, _⟩ => ⟨S1x4096x3, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4096x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S8x8192x1024 : Shape := ⟨3, ![8, 8192, 1024]⟩
abbrev S8x1024 : Shape := ⟨2, ![8, 1024]⟩
abbrev S1024x2048 : Shape := ⟨2, ![1024, 2048]⟩
abbrev S2048 : Shape := ⟨1, ![2048]⟩
abbrev S1024x3 : Shape := ⟨2, ![1024, 3]⟩
abbrev S3 : Shape := ⟨1, ![3]⟩
abbrev S_ : Shape := ⟨0, ![]⟩
abbrev S8x2048 : Shape := ⟨2, ![8, 2048]⟩
abbrev S1x2048 : Shape := ⟨2, ![1, 2048]⟩
abbrev S8x8192 : Shape := ⟨2, ![8, 8192]⟩
abbrev S8x8192x1 : Shape := ⟨3, ![8, 8192, 1]⟩
abbrev S8x1x1024 : Shape := ⟨3, ![8, 1, 1024]⟩
abbrev S8x8192x3 : Shape := ⟨3, ![8, 8192, 3]⟩
abbrev S1x1x3 : Shape := ⟨3, ![1, 1, 3]⟩

abbrev nBuf : Space → Nat
  | .hbm => 66
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1024, .f32⟩
  | .hbm, ⟨2, _⟩ => ⟨S1024x2048, .f32⟩
  | .hbm, ⟨3, _⟩ => ⟨S2048, .f32⟩
  | .hbm, ⟨4, _⟩ => ⟨S1024x3, .f32⟩
  | .hbm, ⟨5, _⟩ => ⟨S3, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x2048, .f32⟩
  | .hbm, ⟨16, _⟩ => ⟨S1x2048, .f32⟩
  | .hbm, ⟨17, _⟩ => ⟨S8x2048, .f32⟩
  | .hbm, ⟨18, _⟩ => ⟨S8x2048, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S_, .f32⟩
  | .hbm, ⟨25, _⟩ => ⟨S8x8192x1, .f32⟩
  | .hbm, ⟨26, _⟩ => ⟨S8x8192x1, .f32⟩
  | .hbm, ⟨27, _⟩ => ⟨S8x8192x1024, .f32⟩
  | .hbm, ⟨28, _⟩ => ⟨S8x8192x1024, .f32⟩
  | .hbm, ⟨29, _⟩ => ⟨S8x8192x1024, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S_, .f32⟩
  | .hbm, ⟨34, _⟩ => ⟨S8x8192x1, .f32⟩
  | .hbm, ⟨35, _⟩ => ⟨S8x8192x1, .f32⟩
  | .hbm, ⟨36, _⟩ => ⟨S8x8192x1024, .f32⟩
  | .hbm, ⟨37, _⟩ => ⟨S8x8192x1024, .f32⟩
  | .hbm, ⟨38, _⟩ => ⟨S_, .f32⟩
  | .hbm, ⟨39, _⟩ => ⟨S8x8192x1, .f32⟩
  | .hbm, ⟨40, _⟩ => ⟨S8x8192x1, .f32⟩
  | .hbm, ⟨41, _⟩ => ⟨S8x8192x1, .f32⟩
  | .hbm, ⟨42, _⟩ => ⟨S8x8192x1024, .f32⟩
  | .hbm, ⟨43, _⟩ => ⟨S8x8192x1024, .f32⟩
  | .hbm, ⟨44, _⟩ => ⟨S8x1x1024, .f32⟩
  | .hbm, ⟨45, _⟩ => ⟨S_, .f32⟩
  | .hbm, ⟨46, _⟩ => ⟨S8x1x1024, .f32⟩
  | .hbm, ⟨47, _⟩ => ⟨S8x1x1024, .f32⟩
  | .hbm, ⟨48, _⟩ => ⟨S8x8192x1024, .f32⟩
  | .hbm, ⟨49, _⟩ => ⟨S8x8192x1024, .f32⟩
  | .hbm, ⟨50, _⟩ => ⟨S8x1x1024, .f32⟩
  | .hbm, ⟨51, _⟩ => ⟨S8x8192x1024, .f32⟩
  | .hbm, ⟨52, _⟩ => ⟨S8x8192x1024, .f32⟩
  | .hbm, ⟨53, _⟩ => ⟨S8x8192x1024, .f32⟩
  | .hbm, ⟨54, _⟩ => ⟨S8x8192x1024, .f32⟩
  | .hbm, ⟨55, _⟩ => ⟨S_, .f32⟩
  | .hbm, ⟨56, _⟩ => ⟨S8x8192x1024, .f32⟩
  | .hbm, ⟨57, _⟩ => ⟨S8x8192x1024, .f32⟩
  | .hbm, ⟨58, _⟩ => ⟨S_, .f32⟩
  | .hbm, ⟨59, _⟩ => ⟨S8x8192x1024, .f32⟩
  | .hbm, ⟨60, _⟩ => ⟨S8x8192x1024, .f32⟩
  | .hbm, ⟨61, _⟩ => ⟨S8x8192x1024, .f32⟩
  | .hbm, ⟨62, _⟩ => ⟨S8x8192x3, .f32⟩
  | .hbm, ⟨63, _⟩ => ⟨S1x1x3, .f32⟩
  | .hbm, ⟨64, _⟩ => ⟨S8x8192x3, .f32⟩
  | .hbm, ⟨65, _⟩ => ⟨S8x8192x3, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩

abbrev nD : Nat := 1
abbrev τ : Topo := Topo.v7x

variable {F : FTy → Type} [FloatOps F]
-- ==== Proof.Consts.lean ====
/- The real numbers that the printed float literals denote, each worked out once. -/
module

public import Idealize.ShloMosaic.Lib.IdealHost

@[expose] public section

namespace Cert.Proof.Consts

open Idealize.ShloMosaic

/-- The kernel's multiplier for a mean over 1024 lanes is exactly one 1024th. -/
theorem inv_width : Ideal.ofBits .f32 0x3A800000#32 = (((1024 : ℝ)⁻¹ : ℝ) : EReal) := by
  simp [Ideal.ofBits, Ideal.ieee, -EReal.coe_mul]; norm_num

/-- The reference's divisor for the same mean is exactly 1024. -/
theorem width : Ideal.ofBits .f32 0x44800000#32 = ((1024 : ℝ) : EReal) := by
  simp [Ideal.ofBits, Ideal.ieee, -EReal.coe_mul]; norm_num

/-- The literal that the precondition compares absolute values with is plus infinity. -/
theorem infinity : Ideal.ofBits .f32 0x7F800000#32 = ⊤ := by
  simp [Ideal.ofBits, Ideal.ieee]

end Cert.Proof.Consts
-- ==== Proof.Finite.lean ====
/- What the precondition says: no element of `x` is an infinity. -/
module

public import proofs.«01_k».proof.Defs
public import proofs.«01_k».proof.Proof.Consts

@[expose] public section

noncomputable section

namespace Cert.Proof.Finite

open Idealize.ShloMosaic

/-- The one shape relation that the precondition states: a scalar spreads over the array. -/
theorem facts : Cert.Pre_finite_x.Facts := ⟨by decide⟩

/-- An absolute value below plus infinity is that of a finite number. -/
theorem finite_of_abs_lt (v : EReal) (h : Ideal.cmp .olt (max v (-v)) ⊤ = 1#1) : v ≠ ⊥ ∧ v ≠ ⊤ := by
  constructor <;> rintro rfl <;> simp [Ideal.cmp] at h

/-- Where the precondition's function is all ones, every element of its first argument is finite. -/
theorem finite_of_fn [Cert.Pre_finite_x.Facts] (x : FVec Ideal Cert.Pre_finite_x.S8x8192x1024 .f32) (c : FVec Ideal Cert.Pre_finite_x.S8x1024 .f32)
    (wa : FVec Ideal Cert.Pre_finite_x.S1024x2048 .f32) (ba : FVec Ideal Cert.Pre_finite_x.S2048 .f32)
    (wp : FVec Ideal Cert.Pre_finite_x.S1024x3 .f32) (bp : FVec Ideal Cert.Pre_finite_x.S3 .f32)
    (h : Cert.Pre_finite_x.fn x c wa ba wp bp = fun _ => 1#1) (i : Cert.Pre_finite_x.S8x8192x1024.Idx) :
    (x i : EReal) ≠ ⊥ ∧ (x i : EReal) ≠ ⊤ := by
  have hi : Ideal.cmp .olt (max (x i : EReal) (-(x i))) (Ideal.ofBits .f32 0x7F800000#32) = 1#1 := congrFun h i
  rw [Consts.infinity] at hi
  exact finite_of_abs_lt _ hi

end Cert.Proof.Finite

end
-- ==== Proof.Scalars.lean ====
/- The arithmetic of one result element, as the kernel and as the reference arrange it, and the
   equality of the two where the row of `x` is finite. No memory, no program: sums over the lanes
   of rows of extended reals only. -/
module

public import proofs.«01_k».proof.Proof.Consts
public import Idealize.ShloMosaic.PureOps.Ideal

@[expose] public section

noncomputable section

namespace Cert.Proof.Scalars

open Idealize.ShloMosaic

/-- The positive number that both programs add to the variance, kept as the literal they share. -/
def eps : EReal := Ideal.ofBits .f32 0x358637BD#32

/-- The mean of a row as the kernel takes it: the sum times one 1024th. -/
def meanK (x : Fin 1024 → EReal) : EReal := (∑ k, x k) * Ideal.ofBits .f32 0x3A800000#32

/-- The variance of a row as the kernel takes it: the mean of the squares less the square of the mean. -/
def varK (x : Fin 1024 → EReal) : EReal :=
  (∑ k, x k * x k) * Ideal.ofBits .f32 0x3A800000#32 - meanK x * meanK x

/-- The mean of a row as the reference takes it: the sum divided by 1024. -/
def meanR (x : Fin 1024 → EReal) : EReal := Ideal.div (∑ k, x k) (Ideal.ofBits .f32 0x44800000#32)

/-- The variance of a row as the reference takes it: the mean of the squared deviations. -/
def varR (x : Fin 1024 → EReal) : EReal :=
  Ideal.div (∑ k, (x k - meanR x) * (x k - meanR x)) (Ideal.ofBits .f32 0x44800000#32)

/-- The kernel's factor −1 / ln 2, by which it turns a power of two into a power of e. -/
def negLog2e : EReal := ((-((Real.log 2)⁻¹) : ℝ) : EReal)

/-- The activation as the kernel computes it: `z` over one plus a power of two. -/
def actK (z : EReal) : EReal := Ideal.div z (1 + Ideal.exp2 (z * negLog2e))

/-- The activation as the reference computes it: `z` times the logistic function of `z`. -/
def actR (z : EReal) : EReal := z * Ideal.logistic z

/-- One entry of the modulation row: the activated conditioning row times a column of weights, plus a bias. -/
def modEntry (c w : Fin 1024 → EReal) (b : EReal) : EReal := (∑ k, actR (c k) * w k) + b

/-- One result element as the kernel computes it, from a row `x`, the row of scales `a`, the row of
    shifts `s`, a column `w` of the projection and its bias `b`. -/
def outK (x a s w : Fin 1024 → EReal) (b : EReal) : EReal :=
  (∑ k, actK ((x k - meanK x) * Ideal.rsqrt (varK x + eps) * (1 + a k) + s k) * w k) + b

/-- The same element as the reference computes it. -/
def outR (x a s w : Fin 1024 → EReal) (b : EReal) : EReal :=
  (∑ k, actR ((x k - meanR x) * Ideal.rsqrt (varR x + eps) * (1 + a k) + s k) * w k) + b

/-- Two to the power `−r / ln 2` is e to the power `−r`. -/
theorem exp2_scaled (r : ℝ) : Ideal.exp2 ((r : EReal) * negLog2e) = ((Real.exp (-r) : ℝ) : EReal) := by
  have h2 : Real.log 2 ≠ 0 := (Real.log_pos (by norm_num)).ne'
  unfold negLog2e
  rw [← EReal.coe_mul, Ideal.exp2_coe]
  congr 1
  show (2 : ℝ) ^ (r * -(Real.log 2)⁻¹) = Real.exp (-r)
  rw [Real.rpow_def_of_pos (by norm_num)]
  congr 1
  field_simp

/-- The two activations are one function of the extended reals. -/
theorem act_eq (z : EReal) : actK z = actR z := by
  have h2 : 0 < (Real.log 2)⁻¹ := inv_pos.mpr (Real.log_pos (by norm_num))
  unfold actK actR Ideal.logistic
  induction z using EReal.rec with
  | bot =>
    have h : (⊥ : EReal) * negLog2e = ⊤ := EReal.bot_mul_coe_of_neg (by linarith)
    rw [h]
    simp [Ideal.div]
  | top =>
    have h : (⊤ : EReal) * negLog2e = ⊥ := EReal.top_mul_coe_of_neg (by linarith)
    rw [h]
    simp [Ideal.div]
  | coe r =>
    have hp : (1 + Real.exp (-r)) ≠ 0 := by positivity
    rw [exp2_scaled, ← EReal.coe_neg, Ideal.exp_coe,
      show (1 : EReal) + ((Real.exp (-r) : ℝ) : EReal) = ((1 + Real.exp (-r) : ℝ) : EReal) by push_cast; rfl,
      Ideal.div_coe hp, Ideal.div_coe hp, one_mul]

/-- A sum of finite extended reals is the sum of the reals. -/
theorem sum_coe (f : Fin 1024 → ℝ) : (∑ k, ((f k : ℝ) : EReal)) = ((∑ k, f k : ℝ) : EReal) := by
  induction (Finset.univ : Finset (Fin 1024)) using Finset.induction_on with
  | empty => simp
  | insert a s ha ih => rw [Finset.sum_insert ha, Finset.sum_insert ha, ih, EReal.coe_add]

/-- The two means of a finite row are the real mean. -/
theorem mean_coe (f : Fin 1024 → ℝ) :
    meanK (fun k => (f k : EReal)) = (((∑ k, f k) * (1024 : ℝ)⁻¹ : ℝ) : EReal)
      ∧ meanR (fun k => (f k : EReal)) = (((∑ k, f k) * (1024 : ℝ)⁻¹ : ℝ) : EReal) := by
  unfold meanK meanR
  rw [Consts.inv_width, Consts.width, Ideal.div_coe (by norm_num), sum_coe, one_div, ← EReal.coe_mul]
  exact ⟨rfl, rfl⟩

/-- Over the reals the mean of the squared deviations is the mean square less the squared mean. -/
theorem real_variance (f : Fin 1024 → ℝ) (μ : ℝ) (hμ : μ = (∑ k, f k) * (1024 : ℝ)⁻¹) :
    (∑ k, (f k - μ) * (f k - μ)) * (1024 : ℝ)⁻¹ = (∑ k, f k * f k) * (1024 : ℝ)⁻¹ - μ * μ := by
  have hs : (∑ k, f k) = 1024 * μ := by rw [hμ]; ring
  have e : ∀ k, (f k - μ) * (f k - μ) = f k * f k - 2 * μ * f k + μ * μ := fun k => by ring
  simp only [e, Finset.sum_add_distrib, Finset.sum_sub_distrib, ← Finset.mul_sum, hs,
    Finset.sum_const, Finset.card_univ, Fintype.card_fin, nsmul_eq_mul]
  push_cast
  ring

/-- The two variances of a finite row are equal. -/
theorem var_coe (f : Fin 1024 → ℝ) : varK (fun k => (f k : EReal)) = varR (fun k => (f k : EReal)) := by
  unfold varK varR
  rw [(mean_coe f).1, (mean_coe f).2, Consts.inv_width, Consts.width, Ideal.div_coe (by norm_num), one_div]
  simp only [← EReal.coe_mul, ← EReal.coe_sub, sum_coe]
  rw [real_variance f _ rfl]

/-- On a finite row the kernel's element is the reference's, whatever the other operands hold. -/
theorem out_eq (x a s w : Fin 1024 → EReal) (b : EReal) (hx : ∀ k, x k ≠ ⊥ ∧ x k ≠ ⊤) :
    outK x a s w b = outR x a s w b := by
  obtain ⟨f, rfl⟩ : ∃ f : Fin 1024 → ℝ, x = fun k => (f k : EReal) :=
    ⟨fun k => (x k).toReal, funext fun k => (EReal.coe_toReal (hx k).2 (hx k).1).symm⟩
  unfold outK outR
  simp only [act_eq, var_coe, (mean_coe f).1, (mean_coe f).2]

end Cert.Proof.Scalars

end
-- ==== Proof.BlockValue.lean ====
/- What one grid point computes: each element of the block it writes, from the blocks it loads. -/
module

public import proofs.«01_k».proof.Proof.Scalars
public import proofs.«01_k».proof.Proof.Gen.KernelIdeal.Frame
public import Idealize.ShloMosaic.Lib.Pipeline.ValueKit
public import Idealize.ShloMosaic.Lib.IdealHost

@[expose] public section

set_option maxRecDepth 16384

noncomputable section

namespace Cert.Proof.BlockValue

open Idealize.ShloMosaic Cert.KernelIdeal Cert.KernelIdeal.Gen Cert.Proof.Scalars

/-- The named constant, read over the extended reals, is −1 / ln 2. -/
theorem named_eq : Named.named (F := Ideal) (φ := .bf16) κ "neg_log2e" 0xBFB9#16 = negLog2e := by
  exact IdealRules.named_const.ideal_named_scalar _ _ _ _ rfl

/-- The modulation row of a block: lane `n` is the activated conditioning row times column `n`, plus its bias. -/
theorem pay2_apply (c : Vec Ideal S1x1x1024 .f32) (wa : Vec Ideal S1024x2048 .f32) (ba : Vec Ideal S1x2048 .f32)
    (n : Fin 2048) :
    k0_pay2 (F := Ideal) c wa ba (ix2 0 n)
      = modEntry (fun k => c (ix3 0 0 k)) (fun k => wa (ix2 k n)) (ba (ix2 0 n)) := by
  pointwise [k0_pay2, modEntry, actR]

/-- The row of shifts is the upper half of the modulation row. -/
theorem pay3_apply (c : Vec Ideal S1x1x1024 .f32) (wa : Vec Ideal S1024x2048 .f32) (ba : Vec Ideal S1x2048 .f32)
    (k : Fin 1024) :
    k0_pay3 (F := Ideal) c wa ba (ix2 0 k) = k0_pay2 (F := Ideal) c wa ba (ix2 0 ⟨1024 + k.val, by omega⟩) := by
  unfold k0_pay3
  generalize k0_pay2 (F := Ideal) c wa ba = v
  pointwise []

/-- The normalised row, scaled by one plus the lower half of the modulation row. -/
theorem pay4_apply (c : Vec Ideal S1x1x1024 .f32) (wa : Vec Ideal S1024x2048 .f32) (ba : Vec Ideal S1x2048 .f32)
    (x : Vec Ideal S1x4096x1024 .f32) (r : Fin 4096) (k : Fin 1024) :
    k0_pay4 (F := Ideal) c wa ba x (ix2 r k)
      = (x (ix3 0 r k) - meanK fun l => x (ix3 0 r l))
          * Ideal.rsqrt ((varK fun l => x (ix3 0 r l)) + eps)
          * (1 + k0_pay2 (F := Ideal) c wa ba (ix2 0 ⟨k.val, by omega⟩)) := by
  unfold k0_pay4
  generalize k0_pay2 (F := Ideal) c wa ba = v
  pointwise [meanK, varK, eps]

/-- The stored block: the activated row times a column of the projection, plus its bias. -/
theorem pay1_apply (s : FVec Ideal S1x1024 .bf16) (z : FVec Ideal S4096x1024 .bf16) (wp : Vec Ideal S1024x3 .bf16)
    (bp : Vec Ideal S1x3 .f32) (r : Fin 4096) (j : Fin 3) :
    k0_pay1 (F := Ideal) s z wp bp (ix3 0 r j)
      = (∑ k : Fin 1024, actK (z (ix2 r k) + s (ix2 0 k)) * wp (ix2 k j)) + bp (ix2 0 j) := by
  pointwise [k0_pay1, actK, named_eq]
  rfl

/-- Element `(r, j)` of the block a grid point writes, from the blocks it loads. -/
theorem out_apply (x : Vec Ideal S1x4096x1024 .f32) (c : Vec Ideal S1x1x1024 .f32) (wa : Vec Ideal S1024x2048 .f32)
    (ba : Vec Ideal S1x2048 .f32) (wp : Vec Ideal S1024x3 .bf16) (bp : Vec Ideal S1x3 .f32)
    (r : Fin 4096) (j : Fin 3) :
    out0_6 (F := Ideal) x c wa ba wp bp (ix3 0 r j)
      = outK (fun k => x (ix3 0 r k))
          (fun k => modEntry (fun l => c (ix3 0 0 l)) (fun l => wa (ix2 l ⟨k.val, by omega⟩)) (ba (ix2 0 ⟨k.val, by omega⟩)))
          (fun k => modEntry (fun l => c (ix3 0 0 l)) (fun l => wa (ix2 l ⟨1024 + k.val, by omega⟩))
            (ba (ix2 0 ⟨1024 + k.val, by omega⟩)))
          (fun k => wp (ix2 k j)) (bp (ix2 0 j)) := by
  frame_out
  rw [pay1_apply]
  simp only [pay3_apply, pay4_apply, pay2_apply]
  rfl

end Cert.Proof.BlockValue

end
-- ==== Proof.KernelValue.lean ====
/- What the kernel's result array holds after the run: every element, from the argument arrays. -/
module

public import proofs.«01_k».proof.Proof.BlockValue
public import proofs.«01_k».proof.Proof.Gen.KernelIdeal.Value

@[expose] public section

set_option maxRecDepth 16384

noncomputable section

namespace Cert.Proof.KernelValue

open Idealize.ShloMosaic Idealize.ShloMosaic.TcCoe Idealize.SL.Sem
open Cert.KernelIdeal Cert.KernelIdeal.Gen Cert.Proof.Scalars

/-- The kernel's result as one function of its argument arrays: element `(b, t, j)` is computed from
    row `(b, t)` of the first, row `b` of the second, and the weights and biases. -/
def result (x : Vec Ideal S8x8192x1024 .f32) (c : Vec Ideal S8x1024 .f32) (wa : Vec Ideal S1024x2048 .f32)
    (ba : Vec Ideal S2048 .f32) (wp : Vec Ideal S1024x3 .f32) (bp : Vec Ideal S3 .f32) : Vec Ideal S8x8192x3 .f32 :=
  fun i => outK (fun k => x (ix3 (i 0) (i 1) k))
    (fun k => modEntry (fun l => c (ix2 (i 0) l)) (fun l => wa (ix2 l ⟨k.val, by omega⟩)) (ba (ix1 ⟨k.val, by omega⟩)))
    (fun k => modEntry (fun l => c (ix2 (i 0) l)) (fun l => wa (ix2 l ⟨1024 + k.val, by omega⟩))
      (ba (ix1 ⟨1024 + k.val, by omega⟩)))
    (fun k => wp (ix2 k (i 2))) (bp (ix1 (i 2)))

variable (m : (ℓ : Loc nD τ sig) → Buf (Elt Ideal) ℓ)

/-- Where each window's block lies at each of the 16 grid points (decided over the points). -/
theorem places : ∀ t : Fin cfg0.N,
    win0_0.index t = ![(grid0.coords t 0).val, (grid0.coords t 1).val, 0]
      ∧ win0_1.index t = ![(grid0.coords t 0).val, 0, 0] ∧ win0_2.index t = ![0, 0] ∧ win0_3.index t = ![0, 0]
      ∧ win0_4.index t = ![0, 0] ∧ win0_5.index t = ![0, 0]
      ∧ win0_6.index t = ![(grid0.coords t 0).val, (grid0.coords t 1).val, 0] :=
  (by decide +kernel : ∀ t : Fin grid0.N, _)

/-- The result array after the run is `result` of the argument arrays. -/
theorem final (c : Dev nD) :
    (dats m 0 c).arrAt 6 cfg0.N
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (dats m 0 c).arrAt_eq_of_covers 6 _ (by decide +kernel) fun t hf y => ?_
  blk_simp
  rw [after0_6]
  obtain ⟨r, j, rfl⟩ : ∃ (r : Fin 4096) (j : Fin 3), y = (ix3 0 r j : S1x4096x3.Idx) :=
    ⟨y 1, y 2, (eq_ix3 (n0 := 1) (n1 := 4096) (n2 := 3) y).trans (congrArg (fun a : Fin 1 => ix3 a (y 1) (y 2)) (Subsingleton.elim _ _))⟩
  refine (BlockValue.out_apply _ _ _ _ _ _ r j).trans ?_
  unfold result
  blk_point [iblk, V, places t]

end Cert.Proof.KernelValue

end
-- ==== Proof.RefValue.lean ====
/- What the reference computes: each element of its result, from its argument arrays. -/
module

public import proofs.«01_k».proof.Proof.Scalars
public import proofs.«01_k».proof.Proof.Gen.ReferenceIdeal.Read
public import Idealize.ShloMosaic.Lib.Pipeline.ValueKit
public import Idealize.ShloMosaic.Lib.IdealHost

@[expose] public section

set_option maxRecDepth 16384

noncomputable section

namespace Cert.Proof.RefValue

open Idealize.ShloMosaic Cert.ReferenceIdeal Cert.ReferenceIdeal.Read Cert.Proof.Scalars

variable (x0 : (⟨S8x8192x1024, .f32⟩ : BufTy).Contents (Elt Ideal)) (x1 : (⟨S8x1024, .f32⟩ : BufTy).Contents (Elt Ideal))
  (x2 : (⟨S1024x2048, .f32⟩ : BufTy).Contents (Elt Ideal)) (x3 : (⟨S2048, .f32⟩ : BufTy).Contents (Elt Ideal))
  (x4 : (⟨S1024x3, .f32⟩ : BufTy).Contents (Elt Ideal)) (x5 : (⟨S3, .f32⟩ : BufTy).Contents (Elt Ideal))

/-- The modulation array: entry `(b, n)` is batch `b`'s activated conditioning row times column `n`, plus its bias. -/
theorem mod_apply (b : Fin 8) (n : Fin 2048) :
    val_main_v4 (F := Ideal) x1 x2 x3 (ix2 b n)
      = modEntry (fun k => x1 (ix2 b k)) (fun k => x2 (ix2 k n)) (x3 (ix1 n)) := by
  pointwise [val_main_v4, val_main_v3, val_main_v2, val_main_v1, val_main_v0, val_main_call0_v5, val_main_call0_v4,
    val_main_call0_cst_0, val_main_call0_v3, val_main_call0_v2, val_main_call0_cst, val_main_call0_v1,
    val_main_call0_v0, modEntry, actR, Ideal.logistic]

/-- The mean of a row of `x`. -/
theorem mean_apply (b : Fin 8) (t : Fin 8192) :
    val_main_v10 (F := Ideal) x0 (ix3 b t 0) = meanR fun k => x0 (ix3 b t k) := by
  pointwise [val_main_v10, val_main_v9, val_main_cst_0, val_main_v8, val_main_v7, val_main_cst, meanR]

/-- The variance of a row of `x`. -/
theorem var_apply (b : Fin 8) (t : Fin 8192) :
    val_main_v17 (F := Ideal) x0 (ix3 b t 0) = varR fun k => x0 (ix3 b t k) := by
  pointwise [val_main_v17, val_main_v16, val_main_cst_2, val_main_v15, val_main_v14, val_main_cst_1, val_main_v13,
    val_main_v12, val_main_v11, mean_apply, varR]

/-- The normalised row of `x`. -/
theorem norm_apply (b : Fin 8) (t : Fin 8192) (k : Fin 1024) :
    val_main_v24 (F := Ideal) x0 (ix3 b t k)
      = (x0 (ix3 b t k) - meanR fun l => x0 (ix3 b t l))
          * Ideal.rsqrt ((varR fun l => x0 (ix3 b t l)) + eps) := by
  pointwise [val_main_v24, val_main_v23, val_main_v22, val_main_v21, val_main_v20, val_main_cst_3, val_main_v19,
    val_main_v18, mean_apply, var_apply, eps]

/-- The normalised row, scaled and shifted by the two halves of the modulation array. -/
theorem modulated_apply (b : Fin 8) (t : Fin 8192) (k : Fin 1024) :
    val_main_v32 (F := Ideal) x0 x1 x2 x3 (ix3 b t k)
      = val_main_v24 (F := Ideal) x0 (ix3 b t k)
          * (1 + val_main_v4 (F := Ideal) x1 x2 x3 (ix2 b ⟨k.val, by omega⟩))
        + val_main_v4 (F := Ideal) x1 x2 x3 (ix2 b ⟨1024 + k.val, by omega⟩) := by
  pointwise [val_main_v32, val_main_v31, val_main_v30, val_main_v29, val_main_v28, val_main_v27, val_main_v26,
    val_main_cst_4, val_main_v25, val_main_v6, val_main_v5]

/-- The activated row. -/
theorem act_apply (b : Fin 8) (t : Fin 8192) (k : Fin 1024) :
    val_main_v33 (F := Ideal) x0 x1 x2 x3 (ix3 b t k)
      = actR (val_main_v32 (F := Ideal) x0 x1 x2 x3 (ix3 b t k)) := by
  pointwise [val_main_v33, val_main_call1_v5, val_main_call1_v4, val_main_call1_cst_0, val_main_call1_v3,
    val_main_call1_v2, val_main_call1_cst, val_main_call1_v1, val_main_call1_v0, actR, Ideal.logistic]

/-- Element `(b, t, j)` of the reference's result, from its argument arrays. -/
theorem out_apply (b : Fin 8) (t : Fin 8192) (j : Fin 3) :
    val_main_v37 (F := Ideal) x0 x1 x2 x3 x4 x5 (ix3 b t j)
      = outR (fun k => x0 (ix3 b t k))
          (fun k => modEntry (fun l => x1 (ix2 b l)) (fun l => x2 (ix2 l ⟨k.val, by omega⟩)) (x3 (ix1 ⟨k.val, by omega⟩)))
          (fun k => modEntry (fun l => x1 (ix2 b l)) (fun l => x2 (ix2 l ⟨1024 + k.val, by omega⟩))
            (x3 (ix1 ⟨1024 + k.val, by omega⟩)))
          (fun k => x4 (ix2 k j)) (x5 (ix1 j)) := by
  pointwise [val_main_v37, val_main_v36, val_main_v35, val_main_v34, act_apply, modulated_apply, norm_apply,
    mod_apply, outR]

end Cert.Proof.RefValue

end
-- ==== Proof.Equation.lean ====
/- The two results are one array where `x` is finite. -/
module

public import proofs.«01_k».proof.Proof.KernelValue
public import proofs.«01_k».proof.Proof.RefValue

@[expose] public section

noncomputable section

namespace Cert.Proof.Equation

open Idealize.ShloMosaic Cert.Proof.Scalars

/-- The reference's result is the kernel's, from the same argument arrays, the first of them finite. -/
theorem result_eq (x : Vec Ideal Cert.KernelIdeal.S8x8192x1024 .f32) (c : Vec Ideal Cert.KernelIdeal.S8x1024 .f32)
    (wa : Vec Ideal Cert.KernelIdeal.S1024x2048 .f32) (ba : Vec Ideal Cert.KernelIdeal.S2048 .f32)
    (wp : Vec Ideal Cert.KernelIdeal.S1024x3 .f32) (bp : Vec Ideal Cert.KernelIdeal.S3 .f32)
    (hx : ∀ i, (x i : EReal) ≠ ⊥ ∧ (x i : EReal) ≠ ⊤) :
    Cert.ReferenceIdeal.Read.val_main_v37 (F := Ideal) x c wa ba wp bp = KernelValue.result x c wa ba wp bp := by
  funext i
  rw [show i = ix3 (i 0) (i 1) (i 2) from eq_ix3 i]
  exact (RefValue.out_apply x c wa ba wp bp (i 0) (i 1) (i 2)).trans (out_eq _ _ _ _ _ fun k => hx _).symm

end Cert.Proof.Equation

end
-- ==== Proof.Claims.lean ====
/- The claims, each from the runs and the values of the modules before. -/
module

public import proofs.«01_k».proof.Proof.Finite
public import proofs.«01_k».proof.Proof.Equation
public import proofs.«01_k».proof.Proof.Gen.Kernel.Frame
public import proofs.«01_k».proof.Proof.Gen.ReferenceIdeal.Run
public import Idealize.ShloMosaic.Lib.Quiescent

@[expose] public section

noncomputable section

namespace Cert.Proof.Claims

open Idealize.ShloMosaic Idealize.SL.Sem

/-- The kernel as printed runs to its end, leaves its arguments as they were, and leaves every semaphore at zero. -/
theorem kernel_runs : Cert.quiescent_Kernel := fun m g _ => Cert.Kernel.Gen.frame m g

/-- The same of the kernel over the extended reals. -/
theorem ideal_runs : Cert.quiescent_KernelIdeal := fun m g _ => Cert.KernelIdeal.Gen.frame m g

/-- The same, from the memories that the precondition admits. -/
theorem ideal_runs_pre [Cert.Pre_finite_x.Facts] : Cert.quiescent_KernelIdeal_pre_finite_x :=
  fun m g _ => Cert.KernelIdeal.Gen.frame m g

/-- The reference runs to its end, leaves its arguments as they were, and leaves every semaphore at zero. -/
theorem reference_runs : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The same, from the memories that the precondition admits. -/
theorem reference_runs_pre [Cert.Pre_finite_x.Facts] : Cert.quiescent_ReferenceIdeal_pre_finite_x := fun m g _ =>
  reference_runs m g trivial

/-- The idealization changed the kernel in one place only: the literal −1.4453125 is read as −1 / ln 2. -/
theorem preserves : Cert.preserves_Kernel_KernelIdeal :=
  IdealRules.named_const.statement Cert.KernelIdeal.κ "neg_log2e" .bf16 0xBFB9#16 ((-((Real.log 2)⁻¹) : ℝ) : EReal) rfl

/-- From memories that agree on the arguments, with `x` finite, the kernel's result array and the reference's
    are equal over the extended reals, and both leave the arguments as they were. -/
theorem algebraic [Cert.Pre_finite_x.Facts] : Cert.algebraic_KernelIdeal_ReferenceIdeal_pre_finite_x := by
  intro m g m' g' hpre hagree
  refine ⟨_, (θ_run Cert.KernelIdeal.defs _ _).mono (fun _ h c => ⟨(h c).1.trans (KernelValue.final m c), (h c).2⟩)
    (Cert.KernelIdeal.Value.run_blocks (F := Ideal) m g), ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4, h5⟩ := hagree c
  rw [Cert.ReferenceIdeal.Read.val_main_v37_eq, h0, h1, h2, h3, h4, h5]
  exact Equation.result_eq _ _ _ _ _ _ fun i => Finite.finite_of_fn _ _ _ _ _ _ (hpre c) i

end Cert.Proof.Claims

end
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

/-- Everything claimed of the kernel and the reference. -/
theorem claim : Cert.Claim :=
  letI := Finite.facts
  ⟨Cert.Kernel.Gen.facts, Cert.KernelIdeal.Gen.facts, Cert.ReferenceIdeal.Gen.facts, Finite.facts,
    Claims.kernel_runs, Claims.ideal_runs, Claims.ideal_runs_pre, Claims.reference_runs, Claims.reference_runs_pre,
    Claims.preserves, Claims.algebraic⟩

end Cert.Proof

end
